-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_side" .f32 0x3D924925#32 ((1 / 14 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1024x6860 : Shape := ⟨2, ![1024, 6860]⟩
abbrev S_ : Shape := ⟨0, ![]⟩

class Facts : Prop where
  bcast_S_S1024x6860 : S_.BroadcastsInDim S1024x6860 (![] : Fin 0 → Fin S1024x6860.rank)

variable [Facts]

def fn {F : FTy → Type} [FloatOps F] (main_arg0 : FVec F S1024x6860 .f32) : IVec S1024x6860 1 :=
  let main_v0 : FVec F S1024x6860 .f32 := Host.absf main_arg0
  let main_cst : FVec F S_ .f32 := constant S_ .f32 0x7F800000#32
  let main_v1 : FVec F S1024x6860 .f32 := broadcastInDim S1024x6860 ![] bcast_S_S1024x6860 main_cst
  let main_v2 : IVec S1024x6860 1 := cmpf .olt main_v0 main_v1
  main_v2
-- ==== Kernel.lean ====
abbrev S1024x6860 : Shape := ⟨2, ![1024, 6860]⟩
abbrev S6860x1024 : Shape := ⟨2, ![6860, 1024]⟩
abbrev S20x588x1024 : Shape := ⟨3, ![20, 588, 1024]⟩
abbrev S588x4x1024 : Shape := ⟨3, ![588, 4, 1024]⟩
abbrev S588x1024 : Shape := ⟨2, ![588, 1024]⟩
abbrev S6860x128 : Shape := ⟨2, ![6860, 128]⟩
abbrev S20x588x128 : Shape := ⟨3, ![20, 588, 128]⟩
abbrev S588x4x128 : Shape := ⟨3, ![588, 4, 128]⟩
abbrev S588x128 : Shape := ⟨2, ![588, 128]⟩
abbrev S196x35x128 : Shape := ⟨3, ![196, 35, 128]⟩
abbrev S196x20x128 : Shape := ⟨3, ![196, 20, 128]⟩
abbrev S196x128 : Shape := ⟨2, ![196, 128]⟩
abbrev S196x1x128 : Shape := ⟨3, ![196, 1, 128]⟩
abbrev S588x196 : Shape := ⟨2, ![588, 196]⟩
abbrev S1x588x128 : Shape := ⟨3, ![1, 588, 128]⟩
abbrev S196x1x1 : Shape := ⟨3, ![196, 1, 1]⟩
abbrev S196x2x1 : Shape := ⟨3, ![196, 2, 1]⟩
abbrev S196x2x128 : Shape := ⟨3, ![196, 2, 128]⟩
abbrev S196x4x128 : Shape := ⟨3, ![196, 4, 128]⟩
abbrev S196x1x4x128 : Shape := ⟨4, ![196, 1, 4, 128]⟩
abbrev S196x3x4x128 : Shape := ⟨4, ![196, 3, 4, 128]⟩
abbrev S196x3x128 : Shape := ⟨3, ![196, 3, 128]⟩
abbrev S1024x588x4 : Shape := ⟨3, ![1024, 588, 4]⟩
abbrev S1024x588x20 : Shape := ⟨3, ![1024, 588, 20]⟩
abbrev S1024x588 : Shape := ⟨2, ![1024, 588]⟩

abbrev nBuf : Space → Nat
  | .hbm => 8
  | .vmem => 8
  | .smem => 0
  | _ => 0

abbrev bufTy : (tb : Table) → Fin (tcTables nBuf tb) → BufTy
  | .hbm, ⟨0, _⟩ => ⟨S1024x6860, .f32⟩
  | .hbm, ⟨1, _⟩ => ⟨S6860x1024, .f32⟩
  | .hbm, ⟨2, _⟩ => ⟨S20x588x1024, .f32⟩
  | .hbm, ⟨3, _⟩ => ⟨S588x4x1024, .f32⟩
  | .hbm, ⟨4, _⟩ => ⟨S588x1024, .f32⟩
  | .hbm, ⟨5, _⟩ => ⟨S1024x588x4, .f32⟩
  | .hbm, ⟨6, _⟩ => ⟨S1024x588x20, .f32⟩
  | .hbm, ⟨7, _⟩ => ⟨S1024x588, .f32⟩
  | .local _ .vmem, ⟨0, _⟩ => ⟨S6860x128, .f32⟩
  | .local _ .vmem, ⟨1, _⟩ => ⟨S6860x128, .f32⟩
  | .local _ .vmem, ⟨2, _⟩ => ⟨S20x588x128, .f32⟩
  | .local _ .vmem, ⟨3, _⟩ => ⟨S20x588x128, .f32⟩
  | .local _ .vmem, ⟨4, _⟩ => ⟨S588x4x128, .f32⟩
  | .local _ .vmem, ⟨5, _⟩ => ⟨S588x4x128, .f32⟩
  | .local _ .vmem, ⟨6, _⟩ => ⟨S588x128, .f32⟩
  | .local _ .vmem, ⟨7, _⟩ => ⟨S588x128, .f32⟩
  | _, _ => ⟨S1024x6860, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6860x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x588x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S588x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S588x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_side" => some ((1 / 14 : ℝ) : EReal)
  | _ => none
-- ==== ReferenceIdeal.lean ====
abbrev S1024x6860 : Shape := ⟨2, ![1024, 6860]⟩
abbrev S_ : Shape := ⟨0, ![]⟩
abbrev S13 : Shape := ⟨1, ![13]⟩
abbrev S1 : Shape := ⟨1, ![1]⟩
abbrev S14 : Shape := ⟨1, ![14]⟩
abbrev S14x14 : Shape := ⟨2, ![14, 14]⟩
abbrev S14x14x1 : Shape := ⟨3, ![14, 14, 1]⟩
abbrev S14x14x3 : Shape := ⟨3, ![14, 14, 3]⟩
abbrev S14x14x3x1 : Shape := ⟨4, ![14, 14, 3, 1]⟩
abbrev S14x14x3x2 : Shape := ⟨4, ![14, 14, 3, 2]⟩
abbrev S1x14x14x3x2 : Shape := ⟨5, ![1, 14, 14, 3, 2]⟩
abbrev S1024x14x14x3x2 : Shape := ⟨5, ![1024, 14, 14, 3, 2]⟩
abbrev S1024x14x14x35 : Shape := ⟨4, ![1024, 14, 14, 35]⟩
abbrev S1024x14x14x15 : Shape := ⟨4, ![1024, 14, 14, 15]⟩
abbrev S1024x14x14x3x5 : Shape := ⟨5, ![1024, 14, 14, 3, 5]⟩
abbrev S1024x14x14x3x4 : Shape := ⟨5, ![1024, 14, 14, 3, 4]⟩
abbrev S1024x14x14x3x1 : Shape := ⟨5, ![1024, 14, 14, 3, 1]⟩
abbrev S1024x14x14x3 : Shape := ⟨4, ![1024, 14, 14, 3]⟩
abbrev S1024x14x14x20 : Shape := ⟨4, ![1024, 14, 14, 20]⟩
abbrev S1024x14x14 : Shape := ⟨3, ![1024, 14, 14]⟩
abbrev S1024x14x14x1 : Shape := ⟨4, ![1024, 14, 14, 1]⟩
abbrev S1024x588x4 : Shape := ⟨3, ![1024, 588, 4]⟩
abbrev S1024x14x14x1x20 : Shape := ⟨5, ![1024, 14, 14, 1, 20]⟩
abbrev S1024x14x14x3x20 : Shape := ⟨5, ![1024, 14, 14, 3, 20]⟩
abbrev S1024x588x20 : Shape := ⟨3, ![1024, 588, 20]⟩
abbrev S1024x588 : Shape := ⟨2, ![1024, 588]⟩

abbrev nBuf : Space → Nat
  | .hbm => 84
  | .vmem => 0
  | .smem => 0
  | _ => 0

abbrev bufTy : (tb : Table) → Fin (tcTables nBuf tb) → BufTy
  | .hbm, ⟨0, _⟩ => ⟨S1024x6860, .f32⟩
  | .hbm, ⟨1, _⟩ => ⟨S_, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S13, .f32⟩
  | .hbm, ⟨9, _⟩ => ⟨S_, .f32⟩
  | .hbm, ⟨10, _⟩ => ⟨S13, .f32⟩
  | .hbm, ⟨11, _⟩ => ⟨S13, .f32⟩
  | .hbm, ⟨12, _⟩ => ⟨S1, .f32⟩
  | .hbm, ⟨13, _⟩ => ⟨S_, .f32⟩
  | .hbm, ⟨14, _⟩ => ⟨S13, .f32⟩
  | .hbm, ⟨15, _⟩ => ⟨S13, .f32⟩
  | .hbm, ⟨16, _⟩ => ⟨S13, .f32⟩
  | .hbm, ⟨17, _⟩ => ⟨S13, .f32⟩
  | .hbm, ⟨18, _⟩ => ⟨S1, .f32⟩
  | .hbm, ⟨19, _⟩ => ⟨S13, .f32⟩
  | .hbm, ⟨20, _⟩ => ⟨S13, .f32⟩
  | .hbm, ⟨21, _⟩ => ⟨S13, .f32⟩
  | .hbm, ⟨22, _⟩ => ⟨S1, .f32⟩
  | .hbm, ⟨23, _⟩ => ⟨S14, .f32⟩
  | .hbm, ⟨24, _⟩ => ⟨S14x14, .f32⟩
  | .hbm, ⟨25, _⟩ => ⟨S14x14, .f32⟩
  | .hbm, ⟨26, _⟩ => ⟨S14x14x1, .f32⟩
  | .hbm, ⟨27, _⟩ => ⟨S14x14x3, .f32⟩
  | .hbm, ⟨28, _⟩ => ⟨S14x14x1, .f32⟩
  | .hbm, ⟨29, _⟩ => ⟨S14x14x3, .f32⟩
  | .hbm, ⟨30, _⟩ => ⟨S14x14x3x1, .f32⟩
  | .hbm, ⟨31, _⟩ => ⟨S14x14x3x1, .f32⟩
  | .hbm, ⟨32, _⟩ => ⟨S14x14x3x2, .f32⟩
  | .hbm, ⟨33, _⟩ => ⟨S1x14x14x3x2, .f32⟩
  | .hbm, ⟨34, _⟩ => ⟨S1024x14x14x3x2, .f32⟩
  | .hbm, ⟨35, _⟩ => ⟨S1024x14x14x35, .f32⟩
  | .hbm, ⟨36, _⟩ => ⟨S1024x14x14x15, .f32⟩
  | .hbm, ⟨37, _⟩ => ⟨S1024x14x14x3x5, .f32⟩
  | .hbm, ⟨38, _⟩ => ⟨S1024x14x14x3x4, .f32⟩
  | .hbm, ⟨39, _⟩ => ⟨S1024x14x14x3x1, .f32⟩
  | .hbm, ⟨40, _⟩ => ⟨S1024x14x14x3, .f32⟩
  | .hbm, ⟨41, _⟩ => ⟨S1024x14x14x3, .f32⟩
  | .hbm, ⟨42, _⟩ => ⟨S1024x14x14x3, .f32⟩
  | .hbm, ⟨43, _⟩ => ⟨S_, .f32⟩
  | .hbm, ⟨44, _⟩ => ⟨S1024x14x14x3, .f32⟩
  | .hbm, ⟨45, _⟩ => ⟨S1024x14x14x3, .f32⟩
  | .hbm, ⟨46, _⟩ => ⟨S_, .f32⟩
  | .hbm, ⟨47, _⟩ => ⟨S1024x14x14x3, .f32⟩
  | .hbm, ⟨48, _⟩ => ⟨S1024x14x14x3, .f32⟩
  | .hbm, ⟨49, _⟩ => ⟨S1024x14x14x20, .f32⟩
  | .hbm, ⟨50, _⟩ => ⟨S_, .f32⟩
  | .hbm, ⟨51, _⟩ => ⟨S1024x14x14, .f32⟩
  | .hbm, ⟨52, _⟩ => ⟨S_, .f32⟩
  | .hbm, ⟨53, _⟩ => ⟨S1024x14x14, .f32⟩
  | .hbm, ⟨54, _⟩ => ⟨S1024x14x14, .f32⟩
  | .hbm, ⟨55, _⟩ => ⟨S1024x14x14x1, .f32⟩
  | .hbm, ⟨56, _⟩ => ⟨S1024x14x14x20, .f32⟩
  | .hbm, ⟨57, _⟩ => ⟨S1024x14x14x20, .f32⟩
  | .hbm, ⟨58, _⟩ => ⟨S1024x14x14x20, .f32⟩
  | .hbm, ⟨59, _⟩ => ⟨S_, .f32⟩
  | .hbm, ⟨60, _⟩ => ⟨S1024x14x14, .f32⟩
  | .hbm, ⟨61, _⟩ => ⟨S1024x14x14x1, .f32⟩
  | .hbm, ⟨62, _⟩ => ⟨S1024x14x14x20, .f32⟩
  | .hbm, ⟨63, _⟩ => ⟨S1024x14x14x20, .f32⟩
  | .hbm, ⟨64, _⟩ => ⟨S1024x14x14x3x4, .f32⟩
  | .hbm, ⟨65, _⟩ => ⟨S1024x14x14x3x4, .f32⟩
  | .hbm, ⟨66, _⟩ => ⟨S_, .f32⟩
  | .hbm, ⟨67, _⟩ => ⟨S1024x14x14x3x4, .f32⟩
  | .hbm, ⟨68, _⟩ => ⟨S1024x14x14x3x4, .f32⟩
  | .hbm, ⟨69, _⟩ => ⟨S_, .f32⟩
  | .hbm, ⟨70, _⟩ => ⟨S1024x14x14x3x4, .f32⟩
  | .hbm, ⟨71, _⟩ => ⟨S1024x14x14x3x4, .f32⟩
  | .hbm, ⟨72, _⟩ => ⟨S1024x14x14x3x2, .f32⟩
  | .hbm, ⟨73, _⟩ => ⟨S1024x14x14x3x2, .f32⟩
  | .hbm, ⟨74, _⟩ => ⟨S_, .f32⟩
  | .hbm, ⟨75, _⟩ => ⟨S1024x14x14x3x2, .f32⟩
  | .hbm, ⟨76, _⟩ => ⟨S1024x14x14x3x2, .f32⟩
  | .hbm, ⟨77, _⟩ => ⟨S1024x14x14x3x2, .f32⟩
  | .hbm, ⟨78, _⟩ => ⟨S1024x14x14x3x4, .f32⟩
  | .hbm, ⟨79, _⟩ => ⟨S1024x588x4, .f32⟩
  | .hbm, ⟨80, _⟩ => ⟨S1024x14x14x1x20, .f32⟩
  | .hbm, ⟨81, _⟩ => ⟨S1024x14x14x3x20, .f32⟩
  | .hbm, ⟨82, _⟩ => ⟨S1024x588x20, .f32⟩
  | .hbm, ⟨83, _⟩ => ⟨S1024x588, .f32⟩
  | _, _ => ⟨S1024x6860, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_v20 : Ref sig .tc := ⟨.hbm, 44, rfl⟩
abbrev main_v21 : Ref sig .tc := ⟨.hbm, 45, rfl⟩
abbrev main_cst_1 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== Proof.Spec.lean ====
/- The decoded boxes as plain mathematics over one row of network outputs, and the laws of the extended reals by which
   the kernel's and the reference's ways of computing them agree on finite rows. -/
module

public import Idealize.ShloMosaic.Lib.Pointwise

@[expose] public section

set_option maxRecDepth 16384

noncomputable section

namespace Cert.Decode

open Idealize.ShloMosaic

/-- The place, in a row of 6860 outputs, of channel `q` of the grid cell that box `n` belongs to. -/
def chan (n : Fin 588) (q : Fin 35) : Fin 6860 := ⟨(n : ℕ) / 3 * 35 + q, by omega⟩

/-- The channel of box `n`'s own five outputs that carries its coordinate `k` (4: the confidence). -/
def own (n : Fin 588) (k : Fin 5) : Fin 35 := ⟨(n : ℕ) % 3 * 5 + k, by omega⟩

/-- The channel of class score `j`, shared by the three boxes of a cell. -/
def score (j : Fin 20) : Fin 35 := ⟨15 + (j : ℕ), by omega⟩

/-- The logistic function. -/
def logistic (v : EReal) : EReal := Ideal.div 1 (1 + Ideal.exp (-v))

/-- The column (`k = 0`) or the row (`k = 1`) of box `n`'s cell in the 14 by 14 grid. -/
def corner (n : Fin 588) (k : Fin 4) : ℕ := if (k : ℕ) < 1 then (n : ℕ) / 3 % 14 else (n : ℕ) / 3 / 14

/-- Box `n`'s confidence. -/
def conf (f : Fin 6860 → EReal) (n : Fin 588) : EReal := logistic (f (chan n (own n 4)))

/-- Box `n`'s coordinate `k`: centre x, centre y, width, height. -/
def loc (f : Fin 6860 → EReal) (n : Fin 588) (k : Fin 4) : EReal :=
  if (k : ℕ) < 2 then Ideal.div (logistic (f (chan n (own n k.castSucc))) + ((corner n k : ℝ) : EReal)) ((14 : ℝ) : EReal)
  else logistic (f (chan n (own n k.castSucc)))

/-- The probability of class `j` in box `n`'s cell: the softmax of the cell's class scores. -/
def cls (f : Fin 6860 → EReal) (n : Fin 588) (j : Fin 20) : EReal :=
  Ideal.div (Ideal.exp (f (chan n (score j)))) (∑ k : Fin 20, Ideal.exp (f (chan n (score k))))

/-- A sum of reals, read as an extended real, is the sum of the extended reals. -/
theorem coe_sum {ι : Type} (s : Finset ι) (r : ι → ℝ) : ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

/-- A quotient of reals with a divisor other than zero is the real quotient. -/
theorem div_real (a : ℝ) {b : ℝ} (hb : b ≠ 0) : Ideal.div (a : EReal) (b : EReal) = ((a / b : ℝ) : EReal) := by
  rw [Ideal.div_coe hb, ← EReal.coe_mul, mul_one_div]

/-- The logistic function of a real, from the exponential of the number itself. -/
theorem logistic_eq (r : ℝ) :
    Ideal.div (Ideal.exp (r : EReal)) (1 + Ideal.exp (r : EReal)) = logistic (r : EReal) := by
  have h1 : (1 : EReal) = ((1 : ℝ) : EReal) := rfl
  have hp := Real.exp_pos r
  have hn := Real.exp_pos (-r)
  unfold logistic
  rw [← EReal.coe_neg, Ideal.exp_coe, Ideal.exp_coe, h1, ← EReal.coe_add, ← EReal.coe_add,
    div_real _ (by positivity), div_real _ (by positivity)]
  congr 1
  rw [Real.exp_neg]
  field_simp
  ring

/-- At plus infinity the two ways of computing the logistic function differ, so a finiteness hypothesis is needed. -/
theorem logistic_top : Ideal.div (Ideal.exp ⊤) (1 + Ideal.exp ⊤) ≠ logistic ⊤ := by
  unfold logistic
  rw [EReal.neg_top, Ideal.exp_top, Ideal.exp_bot, add_zero, EReal.add_top_of_ne_bot (by decide)]
  simp [Ideal.div]

/-- A softmax entry of reals as the exponential times the reciprocal of the sum. -/
theorem softmax_recip (r : Fin 20 → ℝ) (j : Fin 20) :
    Ideal.exp (r j : EReal) * Ideal.div 1 (∑ k, Ideal.exp (r k : EReal))
      = Ideal.div (Ideal.exp (r j : EReal)) (∑ k, Ideal.exp (r k : EReal)) := by
  have hS : 0 < ∑ k, Real.exp (r k) := Finset.sum_pos (fun k _ => Real.exp_pos _) ⟨0, Finset.mem_univ _⟩
  simp only [Ideal.exp_coe]
  rw [← coe_sum, Ideal.div_coe hS.ne', Ideal.div_coe hS.ne', one_mul]

/-- A softmax entry of reals does not change when one real is taken off every score. -/
theorem softmax_shift (r : Fin 20 → ℝ) (M : ℝ) (j : Fin 20) :
    Ideal.div (Ideal.exp ((r j : EReal) - (M : EReal))) (∑ k, Ideal.exp ((r k : EReal) - (M : EReal)))
      = Ideal.div (Ideal.exp (r j : EReal)) (∑ k, Ideal.exp (r k : EReal)) := by
  have hS : 0 < ∑ k, Real.exp (r k) := Finset.sum_pos (fun k _ => Real.exp_pos _) ⟨0, Finset.mem_univ _⟩
  have hT : ∑ k, Real.exp (r k - M) = (∑ k, Real.exp (r k)) / Real.exp M := by
    rw [Finset.sum_div]; exact Finset.sum_congr rfl fun k _ => Real.exp_sub _ _
  have hM := Real.exp_pos M
  simp only [← EReal.coe_sub, Ideal.exp_coe]
  rw [← coe_sum, ← coe_sum, div_real _ hS.ne', hT, div_real _ (by positivity), Real.exp_sub]
  congr 1
  field_simp

/-- The largest of twenty reals, taken from minus infinity upwards, is a real. -/
theorem fold_max_real (r : Fin 20 → ℝ) :
    ∃ M : ℝ, max (⊥ : EReal) (Finset.fold max (⊥ : EReal) (fun k => (r k : EReal)) Finset.univ) = (M : EReal) := by
  rw [max_eq_right bot_le]
  have h1 : Finset.fold max (⊥ : EReal) (fun k => (r k : EReal)) Finset.univ < ⊤ :=
    (Finset.fold_max_lt _).2 ⟨bot_lt_top, fun k _ => EReal.coe_lt_top _⟩
  have h2 : (⊥ : EReal) < Finset.fold max (⊥ : EReal) (fun k => (r k : EReal)) Finset.univ :=
    (Finset.lt_fold_max _).2 (Or.inr ⟨0, Finset.mem_univ _, EReal.bot_lt_coe _⟩)
  exact ⟨_, (EReal.coe_toReal h1.ne h2.ne').symm⟩

/-- Multiplying by the real 1/14 is dividing by 14. -/
theorem mul_fourteenth (a : EReal) : a * ((1 / 14 : ℝ) : EReal) = Ideal.div a ((14 : ℝ) : EReal) :=
  (Ideal.div_coe (by norm_num) a).symm

/-- The constant printed as binary 14. -/
theorem word_fourteen : Ideal.ofBits .f32 1096810496#32 = ((14 : ℝ) : EReal) := by
  simp [Ideal.ofBits, Ideal.ieee, -EReal.coe_mul]; norm_num

/-- The constant printed as binary 13. -/
theorem word_thirteen : Ideal.ofBits .f32 1095761920#32 = ((13 : ℝ) : EReal) := by
  simp [Ideal.ofBits, Ideal.ieee, -EReal.coe_mul]; norm_num

/-- The constant printed as binary minus infinity. -/
theorem word_bot : Ideal.ofBits .f32 4286578688#32 = (⊥ : EReal) := by
  simp [Ideal.ofBits, Ideal.ieee]

/-- The constant printed as binary plus infinity. -/
theorem word_top : Ideal.ofBits .f32 2139095040#32 = (⊤ : EReal) := by
  simp [Ideal.ofBits, Ideal.ieee]

/-- An extended real whose absolute value is below plus infinity is a real. -/
theorem real_of_abs_lt (v : EReal) (h : max v (-v) < ⊤) : ∃ r : ℝ, v = (r : EReal) := by
  induction v using EReal.rec with
  | bot => simp at h
  | top => simp at h
  | coe r => exact ⟨r, rfl⟩

end Cert.Decode

end
-- ==== Proof.RefValue.lean ====
/- The reference's three results, element by element, as the plain mathematics of `Cert.Decode` over a row of finite
   network outputs. -/
module

public import proofs.«01_k».proof.Proof.Gen.ReferenceIdeal.Run
public import proofs.«01_k».proof.Proof.Gen.ReferenceIdeal.Read
public import proofs.«01_k».proof.Proof.Spec

@[expose] public section

set_option maxRecDepth 16384

noncomputable section

namespace Cert.ReferenceIdeal.At

open Idealize.ShloMosaic Idealize.ShloMosaic.TcCoe Idealize.SL.Sem
open Cert.ReferenceIdeal Cert.ReferenceIdeal.Gen Cert.ReferenceIdeal.Read Cert.Decode

variable (X : FVec Ideal S1024x6860 .f32)

/-- Row `b` of the network's outputs. -/
abbrev row (b : Fin 1024) : Fin 6860 → EReal := fun i => X (ix2 b i)

/-- A read of row `b` at a place that is channel `q` of box `n`'s cell. -/
theorem read_chan (b : Fin 1024) (n : Fin 588) (q : Fin 35) (i : Fin 6860) (h : (i : ℕ) = (n : ℕ) / 3 * 35 + q) :
    X (ix2 b i) = row X b (chan n q) :=
  congrArg (fun i => X (ix2 b i)) (Fin.ext h)

/-- The confidences. -/
theorem conf_at (b : Fin 1024) (n : Fin 588) : val_main_v52 (F := Ideal) X (ix2 b n) = conf (row X b) n := by
  pointwise [val_main_v52, val_main_v23, val_main_v22, val_main_cst_1, val_main_v21, val_main_v20, val_main_cst_0, val_main_v19, val_main_v18, val_main_v17, val_main_v16, val_main_v14, val_main_v13, val_main_v12]
  rw [read_chan X b n (own n 4) _ (by simp only [own]; omega)]
  rfl

/-- The grid coordinates 0, 1, …, 13, which the reference spaces evenly between 0 and 13. -/
theorem grid_at (k : Fin 14) : val_main_v0 (F := Ideal) (ix1 k) = ((((k : ℕ) : ℝ)) : EReal) := by
  pointwise [val_main_v0, val_main_call0_v16, val_main_call0_v15, val_main_call0_v14, val_main_call0_v13, val_main_call0_v12, val_main_call0_v11, val_main_call0_v10, val_main_call0_v9, val_main_call0_v8, val_main_call0_cst_1, val_main_call0_v7, val_main_call0_v6, val_main_call0_v5, val_main_call0_cst_0, val_main_call0_v4, val_main_call0_v3, val_main_call0_cst, val_main_call0_v2, val_main_call0_v1, val_main_call0_v0, val_main_c, val_main_cst]
  have h13 : (FloatOps.sitofp (F := Ideal) FTy.f32 13#32 : EReal) = ((13 : ℝ) : EReal) := by
    have : (13#32 : BitVec 32).toInt = 13 := by decide
    show (((13#32 : BitVec 32).toInt : ℝ) : EReal) = _
    rw [this]; norm_cast
  have hk : (FloatOps.sitofp (F := Ideal) FTy.f32 (BitVec.ofNat 32 (k : ℕ)) : EReal) = ((((k : ℕ) : ℝ)) : EReal) := by
    have : (BitVec.ofNat 32 (k : ℕ)).toInt = ((k : ℕ) : ℤ) := by revert k; decide
    show (((BitVec.ofNat 32 (k : ℕ)).toInt : ℝ) : EReal) = _
    rw [this]; norm_cast
  have h0 : (id (constant (F := Ideal) S_ FTy.f32 0#32) ix0 : EReal) = 0 := Ideal.ofBits_zero_f32
  simp only [h13, hk, h0, word_thirteen]
  by_cases h : (k : ℕ) < 13
  · simp only [dif_pos h, zero_mul, zero_add]
    rw [div_real _ (by norm_num), ← EReal.coe_mul]
    congr 1; field_simp
  · simp only [dif_neg h]
    have : (k : ℕ) = 13 := by omega
    rw [this]; norm_num

/-- The coordinates: a centre is the logistic value put at its cell's corner, over the grid's side. -/
theorem loc_at (b : Fin 1024) (n : Fin 588) (k : Fin 4) : val_main_v48 (F := Ideal) X (ix3 b n k) = loc (row X b) n k := by
  pointwise [val_main_v48, val_main_v47, val_main_v46, val_main_v45, val_main_v44, val_main_cst_7, val_main_v43, val_main_v42, val_main_v41, val_main_v40, val_main_cst_6, val_main_v39, val_main_v38, val_main_cst_5, val_main_v37, val_main_v36, val_main_v15, val_main_v14, val_main_v13, val_main_v12, val_main_v11, val_main_v10, val_main_v9, val_main_v8, val_main_v7, val_main_v6, val_main_v5, val_main_v4, val_main_v3, val_main_v2, val_main_v1]
  unfold loc corner
  have e : ∀ (x : Fin 6860), (x : ℕ) = (n : ℕ) / 3 * 35 + ((n : ℕ) % 3 * 5 + (k : ℕ)) → x = chan n (own n k.castSucc) :=
    fun x h => Fin.ext h
  by_cases hk : (k : ℕ) < 2
  · have e1 := fun h => e ⟨(n : ℕ) / 42 * 490 + (n : ℕ) / 3 % 14 * 35 + ((n : ℕ) % 3 * 5 + (k : ℕ)), h⟩ (by simp only []; omega)
    have e2 : (n : ℕ) / 42 = (n : ℕ) / 3 / 14 := by omega
    by_cases h1 : (k : ℕ) < 1
    · simp only [dif_pos hk, if_pos hk, dif_pos h1, if_pos h1, word_fourteen, grid_at, e1, Decode.logistic, row]
    · simp only [dif_pos hk, if_pos hk, dif_neg h1, if_neg h1, word_fourteen, grid_at, e1]
      simp only [e2, Decode.logistic, row]
  · have e1 := fun h => e ⟨(n : ℕ) / 42 * 490 + (n : ℕ) / 3 % 14 * 35 + ((n : ℕ) % 3 * 5 + (2 + ((k : ℕ) - 2))), h⟩ (by simp only []; omega)
    simp only [dif_neg hk, if_neg hk, e1, Decode.logistic, row]

/-- The class scores. -/
theorem score_at (b : Fin 1024) (p q : Fin 14) (j : Fin 20) :
    val_main_v24 (F := Ideal) X (ix4 b p q j) = X (ix2 b ⟨(p : ℕ) * 490 + (q : ℕ) * 35 + (15 + (j : ℕ)), by omega⟩) := by
  pointwise [val_main_v24, val_main_v12]

/-- The maximum along the last axis, started at minus infinity. -/
theorem reduce_max (Y : FVec Ideal S1024x14x14x20 .f32) (b : Fin 1024) (p q : Fin 14) :
    (Host.reduce FloatOps.maximumf Y (constant S_ .f32 0xFF800000#32) reducesTo_S1024x14x14x20_S1024x14x14_d3 h_S_ : FVec Ideal S1024x14x14 .f32) (ix3 b p q)
      = (Finset.fold max (⊥ : EReal) (fun k : Fin 20 => Y (ix4 b p q k)) Finset.univ : EReal) := by
  pointwise
  rw [word_bot]

/-- The maximum with minus infinity spread over the cells. -/
theorem floor_max (Y : FVec Ideal S1024x14x14 .f32) (b : Fin 1024) (p q : Fin 14) :
    (maximumf (broadcastInDim S1024x14x14 ![] bcast_S_S1024x14x14 (constant S_ .f32 0xFF800000#32)) Y : FVec Ideal S1024x14x14 .f32) (ix3 b p q)
      = max (⊥ : EReal) (Y (ix3 b p q)) := by
  pointwise
  rw [word_bot]

/-- A cell's largest class score. -/
theorem max_at (b : Fin 1024) (p q : Fin 14) :
    val_main_v27 (F := Ideal) X (ix3 b p q)
      = max (⊥ : EReal) (Finset.fold max (⊥ : EReal) (fun k : Fin 20 => val_main_v24 (F := Ideal) X (ix4 b p q k)) Finset.univ) := by
  exact (floor_max _ b p q).trans (congrArg (max (⊥ : EReal)) (reduce_max _ b p q))

/-- The exponential of a class score less the cell's largest. -/
theorem exp_at (b : Fin 1024) (p q : Fin 14) (j : Fin 20) :
    val_main_v31 (F := Ideal) X (ix4 b p q j)
      = Ideal.exp ((val_main_v24 (F := Ideal) X (ix4 b p q j) : EReal) - val_main_v27 (F := Ideal) X (ix3 b p q)) := by
  pointwise [val_main_v31, val_main_v30, val_main_v29, val_main_v28]

/-- A cell's sum of those exponentials. -/
theorem sum_at (b : Fin 1024) (p q : Fin 14) :
    val_main_v32 (F := Ideal) X (ix3 b p q) = ∑ k : Fin 20, (val_main_v31 (F := Ideal) X (ix4 b p q k) : EReal) := by
  pointwise [val_main_v32, val_main_cst_4]

/-- A class probability, as the quotient of an exponential by their sum. -/
theorem quot_at (b : Fin 1024) (n : Fin 588) (j : Fin 20) :
    val_main_v51 (F := Ideal) X (ix3 b n j)
      = Ideal.div (val_main_v31 (F := Ideal) X (ix4 b ⟨(n : ℕ) / 42, by omega⟩ ⟨(n : ℕ) / 3 % 14, by omega⟩ j))
          (val_main_v32 (F := Ideal) X (ix3 b ⟨(n : ℕ) / 42, by omega⟩ ⟨(n : ℕ) / 3 % 14, by omega⟩)) := by
  pointwise [val_main_v51, val_main_v50, val_main_v49, val_main_v35, val_main_v34, val_main_v33]

/-- The class probabilities, of a row of reals. -/
theorem cls_at (b : Fin 1024) (n : Fin 588) (j : Fin 20) (r : Fin 6860 → ℝ) (hr : ∀ i, X (ix2 b i) = (r i : EReal)) :
    val_main_v51 (F := Ideal) X (ix3 b n j) = cls (row X b) n j := by
  have hs : ∀ k : Fin 20, val_main_v24 (F := Ideal) X (ix4 b ⟨(n : ℕ) / 42, by omega⟩ ⟨(n : ℕ) / 3 % 14, by omega⟩ k)
      = (r (chan n (score k)) : EReal) := fun k => by
    rw [score_at, read_chan X b n (score k) _ (by simp only [score]; omega)]; exact hr _
  obtain ⟨M, hM⟩ := fold_max_real fun k => r (chan n (score k))
  rw [quot_at, sum_at]
  simp only [exp_at, max_at, hs]
  rw [hM, softmax_shift (fun k => r (chan n (score k)))]
  unfold cls row
  simp only [hr]

/-- The reference runs, its results are the staged values of its argument, and the argument ends unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun s => ∀ c : Dev nD,
      s.2.mem ((c.tc : Thread nD τ).loc main_v48) = val_main_v48 (F := Ideal) (m ((c.tc : Thread nD τ).loc main_arg0))
      ∧ s.2.mem ((c.tc : Thread nD τ).loc main_v51) = val_main_v51 (F := Ideal) (m ((c.tc : Thread nD τ).loc main_arg0))
      ∧ s.2.mem ((c.tc : Thread nD τ).loc main_v52) = val_main_v52 (F := Ideal) (m ((c.tc : Thread nD τ).loc main_arg0))
      ∧ s.2.mem ((c.tc : Thread nD τ).loc main_arg0) = m ((c.tc : Thread nD τ).loc main_arg0)) :=
  (θ_run defs _ _).mono
    (fun _ h c => ⟨(h c).1.trans (val_main_v48_eq _), (h c).2.1.trans (val_main_v51_eq _), (h c).2.2.1.trans (val_main_v52_eq _), (h c).2.2.2⟩)
    (Cert.ReferenceIdeal.Value.run m ρ)

end Cert.ReferenceIdeal.At

end
-- ==== Proof.Block.lean ====
/- What the kernel's body stores at one grid point, element by element: the plain mathematics of `Cert.Decode` over the
   block's columns, when a column's entries are finite. -/
module

public import proofs.«01_k».proof.Proof.Gen.KernelIdeal.Frame
public import proofs.«01_k».proof.Proof.Spec
public import Idealize.ShloMosaic.Lib.Pipeline.ValueKit
public import Idealize.ShloMosaic.Lib.Pointwise
public import Idealize.ShloMosaic.PureOps.IdealRules

@[expose] public section

set_option maxRecDepth 16384

noncomputable section

namespace Cert.KernelIdeal.Block

open Idealize.ShloMosaic Idealize.ShloMosaic.TcCoe Idealize.SL.Sem
open Cert.KernelIdeal Cert.KernelIdeal.Gen Cert.Decode

/-- A small natural number, written as a 32-bit word and converted to a float, is that number. -/
theorem float_word (p : ℕ) (hp : p < 588) : (FloatOps.sitofp (F := Ideal) FTy.f32 (BitVec.ofNat 32 p) : EReal) = ((p : ℝ) : EReal) := by
  have : (BitVec.ofNat 32 p).toInt = (p : ℤ) := by
    have := (by decide +kernel : ∀ p : Fin 588, (BitVec.ofNat 32 (p : ℕ)).toInt = ((p : ℕ) : ℤ)) ⟨p, hp⟩
    exact this
  show (((BitVec.ofNat 32 p).toInt : ℝ) : EReal) = _
  rw [this]; norm_cast

/-- The kernel's floored division of a box's number by 3, compared with a cell's number: whether they are equal. -/
theorem cell_word (n : Fin 588) (k : Fin 196) :
    BitVec.setWidth 32 (IntOp.cmpi .eq (Scalar.select
      (IntOp.andi
        (IntOp.cmpi .ne
          (IntOp.subi (BitVec.setWidth 32 (IntOp.cmpi .sgt (BitVec.ofNat 32 (n : ℕ)) 0#32)) (BitVec.setWidth 32 (IntOp.cmpi .slt (BitVec.ofNat 32 (n : ℕ)) 0#32)))
          (Scalar.subi (Scalar.extui (Scalar.cmpi .sgt 3#32 0#32)) (Scalar.extui (Scalar.cmpi .slt 3#32 0#32))))
        (IntOp.cmpi .ne (IntOp.remsi ArithUnit.vector (BitVec.ofNat 32 (n : ℕ)) 3#32) 0#32))
      (IntOp.subi (IntOp.divsi ArithUnit.vector (BitVec.ofNat 32 (n : ℕ)) 3#32) 1#32)
      (IntOp.divsi ArithUnit.vector (BitVec.ofNat 32 (n : ℕ)) 3#32)) (BitVec.ofNat 32 (k : ℕ)))
      = BitVec.ofNat 32 (if (n : ℕ) / 3 = k then 1 else 0) := by
  have h := (by decide +kernel : ∀ n : Fin 588, (Scalar.select
      (IntOp.andi
        (IntOp.cmpi .ne
          (IntOp.subi (BitVec.setWidth 32 (IntOp.cmpi .sgt (BitVec.ofNat 32 (n : ℕ)) 0#32)) (BitVec.setWidth 32 (IntOp.cmpi .slt (BitVec.ofNat 32 (n : ℕ)) 0#32)))
          (Scalar.subi (Scalar.extui (Scalar.cmpi .sgt 3#32 0#32)) (Scalar.extui (Scalar.cmpi .slt 3#32 0#32))))
        (IntOp.cmpi .ne (IntOp.remsi ArithUnit.vector (BitVec.ofNat 32 (n : ℕ)) 3#32) 0#32))
      (IntOp.subi (IntOp.divsi ArithUnit.vector (BitVec.ofNat 32 (n : ℕ)) 3#32) 1#32)
      (IntOp.divsi ArithUnit.vector (BitVec.ofNat 32 (n : ℕ)) 3#32)) = BitVec.ofNat 32 ((n : ℕ) / 3)) n
  rw [h]
  exact (by decide +kernel : ∀ p k : Fin 196, BitVec.setWidth 32 (IntOp.cmpi .eq (BitVec.ofNat 32 (p : ℕ)) (BitVec.ofNat 32 (k : ℕ)))
    = BitVec.ofNat 32 (if (p : ℕ) = k then 1 else 0)) ⟨(n : ℕ) / 3, by omega⟩ k

/-- The kernel's one-hot matrix: one where the box belongs to the cell, zero elsewhere. -/
theorem oneHot_apply (n : Fin 588) (k : Fin 196) : k0_pay5 (F := Ideal) (ix2 n k) = (if (n : ℕ) / 3 = k then 1 else 0 : EReal) := by
  pointwise [k0_pay5]
  rw [cell_word n k, float_word _ (by split_ifs <;> norm_num)]
  split_ifs <;> norm_num

/-- The kernel's remainder of a cell's number by 14. -/
theorem mod_word (p : ℕ) (hp : p < 196) :
    Scalar.select
      (IntOp.andi
        (IntOp.xori
          (IntOp.cmpi .slt (IntOp.remsi ArithUnit.vector (BitVec.ofNat 32 p) (Scalar.select (Scalar.cmpi .eq 14#32 0#32) 1#32 14#32)) 0#32)
          (Scalar.cmpi .slt (Scalar.select (Scalar.cmpi .eq 14#32 0#32) 1#32 14#32) 0#32))
        (IntOp.cmpi .ne (IntOp.remsi ArithUnit.vector (BitVec.ofNat 32 p) (Scalar.select (Scalar.cmpi .eq 14#32 0#32) 1#32 14#32)) 0#32))
      (IntOp.addi (IntOp.remsi ArithUnit.vector (BitVec.ofNat 32 p) (Scalar.select (Scalar.cmpi .eq 14#32 0#32) 1#32 14#32))
        (Scalar.select (Scalar.cmpi .eq 14#32 0#32) 1#32 14#32))
      (IntOp.remsi ArithUnit.vector (BitVec.ofNat 32 p) (Scalar.select (Scalar.cmpi .eq 14#32 0#32) 1#32 14#32))
      = BitVec.ofNat 32 (p % 14) := by
  revert p
  decide +kernel

/-- The kernel's floored quotient of a cell's number by 14. -/
theorem div_word (p : ℕ) (hp : p < 196) :
    Scalar.select
      (IntOp.andi
        (IntOp.cmpi .ne
          (IntOp.subi (BitVec.setWidth 32 (IntOp.cmpi .sgt (BitVec.ofNat 32 p) 0#32)) (BitVec.setWidth 32 (IntOp.cmpi .slt (BitVec.ofNat 32 p) 0#32)))
          (Scalar.subi (Scalar.extui (Scalar.cmpi .sgt 14#32 0#32)) (Scalar.extui (Scalar.cmpi .slt 14#32 0#32))))
        (IntOp.cmpi .ne (IntOp.remsi ArithUnit.vector (BitVec.ofNat 32 p) 14#32) 0#32))
      (IntOp.subi (IntOp.divsi ArithUnit.vector (BitVec.ofNat 32 p) 14#32) 1#32)
      (IntOp.divsi ArithUnit.vector (BitVec.ofNat 32 p) 14#32)
      = BitVec.ofNat 32 (p / 14) := by
  revert p
  decide +kernel

/-- The named reciprocal of the grid's side is the real 1/14. -/
theorem inv_side : (Named.named (F := Ideal) (φ := .f32) κ "inv_side" 1032997157#32 : EReal) = ((1 / 14 : ℝ) : EReal) :=
  IdealRules.named_const.ideal_named_scalar _ _ _ _ rfl

variable (x0 : FVec Ideal S6860x128 .f32) (l : Fin 128)

/-- The confidences of a block with finite column `l`. -/
theorem conf_apply (r : Fin 6860 → ℝ) (h : ∀ i, x0 (ix2 i l) = (r i : EReal)) (n : Fin 588) :
    k0_pay35 (k0_pay2 (F := Ideal) x0) (ix2 n l) = conf (fun i => x0 (ix2 i l)) n := by
  pointwise [k0_pay35, k0_pay2, k0_pay1]
  have e : ∀ i : Fin 6860, (i : ℕ) = (n : ℕ) / 3 * 35 + ((n : ℕ) % 3 * 5 + 4) → r i = r (chan n (own n 4)) :=
    fun i hi => congrArg r (Fin.ext hi)
  unfold conf
  simp only [h, logistic_eq]
  split_ifs <;> rw [e _ (by simp only []; omega)]

/-- The coordinates of a block with finite column `l`. -/
theorem loc_apply (r : Fin 6860 → ℝ) (h : ∀ i, x0 (ix2 i l) = (r i : EReal)) (n : Fin 588) (k : Fin 4) :
    k0_pay34 (k0_pay2 (F := Ideal) x0) (iota .tc S196x1x1 32 [0] iota_S196x1x1_d0_w32) (k0_pay31 (F := Ideal)) 14#32 k0_pay32 k0_pay33 (ix3 n k l)
      = loc (fun i => x0 (ix2 i l)) n k := by
  pointwise [k0_pay34, k0_pay2, k0_pay1, k0_pay31, k0_pay32, k0_pay33]
  have e : ∀ i : Fin 6860, (i : ℕ) = (n : ℕ) / 3 * 35 + ((n : ℕ) % 3 * 5 + k) → r i = r (chan n (own n k.castSucc)) :=
    fun i hi => congrArg r (Fin.ext hi)
  unfold loc corner
  simp only [h, logistic_eq, inv_side, mul_fourteenth, mod_word ((n : ℕ) / 3) (by omega), div_word ((n : ℕ) / 3) (by omega),
    float_word ((n : ℕ) / 3 % 14) (by omega), float_word ((n : ℕ) / 3 / 14) (by omega)]
  split_ifs <;> rw [e _ (by simp only []; omega)]

/-- Class `j`'s slab of a block with finite column `l`: the matrix product with the one-hot matrix gives every box its
    cell's probability. -/
theorem slab_apply (r : Fin 6860 → ℝ) (h : ∀ i, x0 (ix2 i l) = (r i : EReal)) (j : Fin 20)
    (hs : S196x20x128.Slices ![0, (j : ℕ), 0] S196x1x128) (z : Fin 1) (n : Fin 588) :
    (shapeCast S1x588x128 (matmul dot_S588x196_S196x128_S588x128_1_0_0_1_n_n none (k0_pay5 (F := Ideal))
      (mulf (shapeCast S196x128 (extractStridedSlice S196x1x128 ![0, (j : ℕ), 0] (k0_pay3 (F := Ideal) x0) hs) shapeCasts_S196x1x128_S196x128)
        (shapeCast S196x128 (k0_pay4 (F := Ideal) x0) shapeCasts_S196x1x128_S196x128)) (constant S588x128 .f32 0x00000000#32)) shapeCasts_S588x128_S1x588x128
        : FVec Ideal S1x588x128 .f32) (ix3 z n l) = cls (fun i => x0 (ix2 i l)) n j := by
  generalize hv : k0_pay5 (F := Ideal) = v
  pointwise [k0_pay3, k0_pay4, k0_pay1]
  subst hv
  have hn : (n : ℕ) / 3 < 196 := by omega
  rw [Finset.sum_eq_single (⟨(n : ℕ) / 3, hn⟩ : Fin 196)]
  · rw [oneHot_apply, if_pos rfl, one_mul]
    simp only [h]
    exact softmax_recip (fun k => r (chan n (score k))) j
  · intro p _ hp
    rw [oneHot_apply, if_neg (fun e => hp (Fin.ext e.symm)), zero_mul]
  · exact fun hn => absurd (Finset.mem_univ _) hn

end Cert.KernelIdeal.Block

end
-- ==== Proof.Array.lean ====
/- The kernel's three result arrays after the run, element by element, as the plain mathematics of `Cert.Decode` over
   the rows of finite network outputs. -/
module

public import proofs.«01_k».proof.Proof.Block
public import Idealize.ShloMosaic.Lib.Claim

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.Decode

variable (X : FVec Ideal S1024x6860 .f32)

/-- Row `b` of the network's outputs. -/
abbrev row (b : Fin 1024) : Fin 6860 → EReal := fun i => X (ix2 b i)

/-- The class probabilities, batch last. -/
def clsArr : FVec Ideal S20x588x1024 .f32 := fun i => cls (row X (i 2)) (i 1) (i 0)

/-- The coordinates, batch last. -/
def locArr : FVec Ideal S588x4x1024 .f32 := fun i => loc (row X (i 2)) (i 0) (i 1)

/-- The confidences, batch last. -/
def confArr : FVec Ideal S588x1024 .f32 := fun i => conf (row X (i 1)) (i 0)

/-- The windows' block indices at every grid point. -/
theorem idx : ∀ t : Fin cfg0.N, win0_0.index t = ![0, t.val] ∧ win0_1.index t = ![0, 0, t.val] ∧ win0_2.index t = ![0, 0, t.val]
    ∧ win0_3.index t = ![0, t.val] :=
  (by decide +kernel : ∀ t : Fin grid0.N, _)

variable (m : (ℓ : Loc nD τ sig) → Buf (Elt Ideal) ℓ) (c : Dev nD) (t : Fin cfg0.N)

/-- The input block of point `t`, at its literal type. -/
abbrev blkIn : FVec Ideal S6860x128 .f32 := iblk m c 0 t

/-- The network's outputs as launched, at their literal type. -/
abbrev arg : FVec Ideal S1024x6860 .f32 := m ((c : Thread nD τ).loc main_arg0)

/-- The region finds its operand as the transpose of the network's outputs. -/
theorem V_main_v0 : V m c main_v0 = (transpose S6860x1024 [1, 0] (arg m c) transposes_S1024x6860_S6860x1024_1_0 : FVec Ideal S6860x1024 .f32) := by
  unfold V
  after_results
  rfl

/-- Column `l` of point `t`'s input block is row `128 t + l` of the network's outputs. -/
theorem block_at (i : Fin 6860) (l : Fin 128) (b : Fin 1024) (hb : (b : ℕ) = t.val * 128 + l) :
    blkIn m c t (ix2 i l) = arg m c (ix2 b i) := by
  have e : (transpose S6860x1024 [1, 0] (arg m c) transposes_S1024x6860_S6860x1024_1_0 : FVec Ideal S6860x1024 .f32) (ix2 i b)
      = arg m c (ix2 b i) := by pointwise
  refine Eq.trans ?_ ((congrFun (V_main_v0 m c) (ix2 i b)).trans e)
  blk_ext [iblk, idx t]

/-- A column of point `t`'s input block, whole. -/
theorem column (l : Fin 128) (b : Fin 1024) (hb : (b : ℕ) = t.val * 128 + l) :
    (fun i => blkIn m c t (ix2 i l)) = row (arg m c) b :=
  funext fun i => block_at m c t i l b hb

/-- The body's load of its input block is the block. -/
theorem load_eq (x : Vec Ideal S6860x128 .f32) : View.ld x r0_0 = x :=
  View.ld_unit_zero (by funext a; fin_cases a <;> rfl) _ x

variable (r : S1024x6860.Idx → ℝ) (hr : ∀ i, arg m c i = (r i : EReal))

include hr

/-- The confidences point `t` stores. -/
theorem conf_point (n : Fin 588) (l : Fin 128) (j : S588x1024.Idx) (h0 : (j 0 : ℕ) = n) (h1 : (j 1 : ℕ) = t.val * 128 + l) :
    k0_pay35 (k0_pay2 (F := Ideal) (blkIn m c t)) (ix2 n l) = confArr (arg m c) j := by
  rw [Block.conf_apply (blkIn m c t) l (fun i => r (ix2 (j 1) i)) (fun i => (block_at m c t i l (j 1) h1).trans (hr _)) n,
    column m c t l (j 1) h1, ← (Fin.ext h0 : j 0 = n)]
  rfl

/-- The coordinates point `t` stores. -/
theorem loc_point (n : Fin 588) (k : Fin 4) (l : Fin 128) (j : S588x4x1024.Idx) (h0 : (j 0 : ℕ) = n) (h1 : (j 1 : ℕ) = k)
    (h2 : (j 2 : ℕ) = t.val * 128 + l) :
    k0_pay34 (k0_pay2 (F := Ideal) (blkIn m c t)) (iota .tc S196x1x1 32 [0] iota_S196x1x1_d0_w32) (k0_pay31 (F := Ideal)) 14#32 k0_pay32 k0_pay33 (ix3 n k l)
      = locArr (arg m c) j := by
  rw [Block.loc_apply (blkIn m c t) l (fun i => r (ix2 (j 2) i)) (fun i => (block_at m c t i l (j 2) h2).trans (hr _)) n k,
    column m c t l (j 2) h2, ← (Fin.ext h0 : j 0 = n), ← (Fin.ext h1 : j 1 = k)]
  rfl

/-- The slab of class `q` that point `t` stores. -/
theorem slab_point (q : ℕ) (hs : S196x20x128.Slices ![0, q, 0] S196x1x128) (x : S1x588x128.Idx) (j : S20x588x1024.Idx)
    (h0 : (j 0 : ℕ) = q) (h1 : (j 1 : ℕ) = x 1) (h2 : (j 2 : ℕ) = t.val * 128 + x 2) :
    (shapeCast S1x588x128 (matmul dot_S588x196_S196x128_S588x128_1_0_0_1_n_n none (k0_pay5 (F := Ideal))
      (mulf (shapeCast S196x128 (extractStridedSlice S196x1x128 ![0, q, 0] (k0_pay3 (F := Ideal) (blkIn m c t)) hs) shapeCasts_S196x1x128_S196x128)
        (shapeCast S196x128 (k0_pay4 (F := Ideal) (blkIn m c t)) shapeCasts_S196x1x128_S196x128)) (constant S588x128 .f32 0x00000000#32)) shapeCasts_S588x128_S1x588x128
        : FVec Ideal S1x588x128 .f32) x = clsArr (arg m c) j := by
  subst h0
  rw [eq_ix3 x, Block.slab_apply (blkIn m c t) (x 2) (fun i => r (ix2 (j 2) i))
    (fun i => (block_at m c t i (x 2) (j 2) h2).trans (hr _)) (j 0) hs (x 0) (x 1),
    column m c t (x 2) (j 2) h2, ← (Fin.ext h1 : j 1 = x 1)]
  rfl

/-- The confidences after the run. -/
theorem conf_final : (dats m 0 c).arrAt 3 (cfgs 0).N = confArr (arg m c) := by
  refine (dats m 0 c).arrAt_eq_of_covers 3 _ (by decide +kernel) fun t _ y => ?_
  blk_simp
  rw [after0_3]
  frame_out
  unfold k0_pay36
  rw [load_eq, eq_ix2 y]
  refine conf_point m c t r hr (y 0) (y 1) _ ?_ ?_
  all_goals (blk_simp [idx t] <;> try omega)

/-- The coordinates after the run. -/
theorem loc_final : (dats m 0 c).arrAt 2 (cfgs 0).N = locArr (arg m c) := by
  refine (dats m 0 c).arrAt_eq_of_covers 2 _ (by decide +kernel) fun t _ y => ?_
  blk_simp
  rw [after0_2]
  frame_out
  unfold k0_pay36
  rw [load_eq, eq_ix3 y]
  refine loc_point m c t r hr (y 0) (y 1) (y 2) _ ?_ ?_ ?_
  all_goals (blk_simp [idx t] <;> try omega)

/-- The class probabilities after the run. -/
theorem cls_final : (dats m 0 c).arrAt 1 (cfgs 0).N = clsArr (arg m c) := by
  refine (dats m 0 c).arrAt_eq_of_covers 1 _ (by decide +kernel) fun t _ y => ?_
  blk_simp
  rw [after0_1]
  unfold_out out0_1
  rw [load_eq]
  canon_tiles x h
  all_goals
    refine slab_point m c t r hr _ _ x _ ?_ ?_ ?_
    all_goals (blk_simp [idx t] <;> try omega)

end Cert.KernelIdeal.Array

end
-- ==== Proof.Run.lean ====
/- The kernel's run with its three results named: the arrays of `Cert.KernelIdeal.Array` transposed to put the batch
   first, which is the plain mathematics of `Cert.Decode`. -/
module

public import proofs.«01_k».proof.Proof.Array

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Array Cert.Decode

variable (X : FVec Ideal S1024x6860 .f32)

/-- The coordinates, batch first. -/
def locRes : FVec Ideal S1024x588x4 .f32 := fun i => loc (row X (i 0)) (i 1) (i 2)

/-- The class probabilities, batch first. -/
def clsRes : FVec Ideal S1024x588x20 .f32 := fun i => cls (row X (i 0)) (i 1) (i 2)

/-- The confidences, batch first. -/
def confRes : FVec Ideal S1024x588 .f32 := fun i => conf (row X (i 0)) (i 1)

/-- The coordinates with the batch moved to the front. -/
theorem loc_front : (transpose S1024x588x4 [2, 0, 1] (locArr X) transposes_S588x4x1024_S1024x588x4_2_0_1 : FVec Ideal S1024x588x4 .f32) = locRes X := by
  funext i
  pointwise
  rfl

/-- The class probabilities with the batch moved to the front. -/
theorem cls_front : (transpose S1024x588x20 [2, 1, 0] (clsArr X) transposes_S20x588x1024_S1024x588x20_2_1_0 : FVec Ideal S1024x588x20 .f32) = clsRes X := by
  funext i
  pointwise
  rfl

/-- The confidences with the batch moved to the front. -/
theorem conf_front : (transpose S1024x588 [1, 0] (confArr X) transposes_S588x1024_S1024x588_1_0 : FVec Ideal S1024x588 .f32) = confRes X := by
  funext i
  pointwise
  rfl

/-- The host operations after the region leave the second array of the launch, batch first, in the first result. -/
theorem tail_loc (σ : Valuation τ sig (Elt Ideal)) : StableHlo.after ([hostOps1] : List (List (HloOp τ sig (Elt Ideal)))).flatten σ (Proc.devRef .tc main_v2)
    = (transpose S1024x588x4 [2, 0, 1] (σ (Proc.devRef .tc main_v1_1)) transposes_S588x4x1024_S1024x588x4_2_0_1 : FVec Ideal S1024x588x4 .f32) := by
  simp only [hostOps1, List.flatten_cons, List.flatten_nil, List.append_nil]
  after_results

/-- The host operations after the region leave the first array of the launch, batch first, in the second result. -/
theorem tail_cls (σ : Valuation τ sig (Elt Ideal)) : StableHlo.after ([hostOps1] : List (List (HloOp τ sig (Elt Ideal)))).flatten σ (Proc.devRef .tc main_v3)
    = (transpose S1024x588x20 [2, 1, 0] (σ (Proc.devRef .tc main_v1_0)) transposes_S20x588x1024_S1024x588x20_2_1_0 : FVec Ideal S1024x588x20 .f32) := by
  simp only [hostOps1, List.flatten_cons, List.flatten_nil, List.append_nil]
  after_results

/-- The host operations after the region leave the third array of the launch, batch first, in the third result. -/
theorem tail_conf (σ : Valuation τ sig (Elt Ideal)) : StableHlo.after ([hostOps1] : List (List (HloOp τ sig (Elt Ideal)))).flatten σ (Proc.devRef .tc main_v4)
    = (transpose S1024x588 [1, 0] (σ (Proc.devRef .tc main_v1_2)) transposes_S588x1024_S1024x588_1_0 : FVec Ideal S1024x588 .f32) := by
  simp only [hostOps1, List.flatten_cons, List.flatten_nil, List.append_nil]
  after_results

variable (m : (ℓ : Loc nD τ sig) → Buf (Elt Ideal) ℓ) (ρ : Dev nD → PrngReg) (c : Dev nD)

/-- What a buffer of the launch's window `w` holds when the region is over. -/
theorem region_array (w : Fin 4) :
    Pipeline.withArrays (τ := τ) (cfgs 0).spec c (V0 m c) (fun w => (dats m 0 c).arrAt w (cfgs 0).N) (Proc.devRef .tc (Pipeline.arrRef (cfgs 0).spec w))
      = (dats m 0 c).arrAt w (cfgs 0).N :=
  Pipeline.withArrays_arr _ ((by decide : Function.Injective (Pipeline.arrRef spec0))) c _ _ w

variable (r : S1024x6860.Idx → ℝ) (hr : ∀ i, arg m c i = (r i : EReal))

include hr

/-- The coordinates when the run is over. -/
theorem loc_after : Pipeline.afterTail₀ cfgs (dats m) 0 (V0 m) [hostOps1] c main_v2 = locRes (arg m c) := by
  have e := (region_array m c 2).trans (loc_final m c r hr)
  exact (tail_loc _).trans ((congrArg (fun A : FVec Ideal S588x4x1024 .f32 =>
    (transpose S1024x588x4 [2, 0, 1] A transposes_S588x4x1024_S1024x588x4_2_0_1 : FVec Ideal S1024x588x4 .f32)) e).trans (loc_front _))

/-- The class probabilities when the run is over. -/
theorem cls_after : Pipeline.afterTail₀ cfgs (dats m) 0 (V0 m) [hostOps1] c main_v3 = clsRes (arg m c) := by
  have e := (region_array m c 1).trans (cls_final m c r hr)
  exact (tail_cls _).trans ((congrArg (fun A : FVec Ideal S20x588x1024 .f32 =>
    (transpose S1024x588x20 [2, 1, 0] A transposes_S20x588x1024_S1024x588x20_2_1_0 : FVec Ideal S1024x588x20 .f32)) e).trans (cls_front _))

/-- The confidences when the run is over. -/
theorem conf_after : Pipeline.afterTail₀ cfgs (dats m) 0 (V0 m) [hostOps1] c main_v4 = confRes (arg m c) := by
  have e := (region_array m c 3).trans (conf_final m c r hr)
  exact (tail_conf _).trans ((congrArg (fun A : FVec Ideal S588x1024 .f32 =>
    (transpose S1024x588 [1, 0] A transposes_S588x1024_S1024x588_1_0 : FVec Ideal S1024x588 .f32)) e).trans (conf_front _))

omit r hr in
/-- The kernel runs, and from finite arguments its three results are the coordinates, the class probabilities and the
    confidences of `Cert.Decode`; the argument ends unchanged. -/
theorem run (hfin : ∀ c, ∃ r : S1024x6860.Idx → ℝ, ∀ i, arg m c i = (r i : EReal)) :
    θ_run (defs (F := Ideal)) (onTc (τ := τ) (main (F := Ideal))) ⟨m, fun _ => 0, ρ⟩ (fun s => ∀ c : Dev nD,
      s.2.mem ((c.tc : Thread nD τ).loc main_v2) = locRes (arg m c)
      ∧ s.2.mem ((c.tc : Thread nD τ).loc main_v3) = clsRes (arg m c)
      ∧ s.2.mem ((c.tc : Thread nD τ).loc main_v4) = confRes (arg m c)
      ∧ s.2.mem ((c.tc : Thread nD τ).loc main_arg0) = m ((c.tc : Thread nD τ).loc main_arg0)) := by
  run_from Gen.run_main m ρ
  · exact (hfin c).elim fun r hr => loc_after m c r hr
  · exact (hfin c).elim fun r hr => cls_after m c r hr
  · exact (hfin c).elim fun r hr => conf_after m c r hr
  · exact W_main_arg0 m (dats m) c

end Cert.KernelIdeal.Run

end
-- ==== Proof.Compare.lean ====
/- The reference's results are the kernel's, as whole arrays, and the precondition read as what the proof needs of it:
   every network output is a real number. -/
module

public import proofs.«01_k».proof.Defs
public import proofs.«01_k».proof.Proof.RefValue
public import proofs.«01_k».proof.Proof.Run

@[expose] public section

set_option maxRecDepth 16384

noncomputable section

namespace Cert.Compare

open Idealize.ShloMosaic Idealize.ShloMosaic.TcCoe Idealize.SL.Sem
open Cert.ReferenceIdeal.Read Cert.ReferenceIdeal.At Cert.KernelIdeal.Run Cert.Decode

variable (X : FVec Ideal Cert.KernelIdeal.S1024x6860 .f32)

/-- The reference's coordinates are the kernel's. -/
theorem loc_eq : val_main_v48 (F := Ideal) X = locRes X :=
  funext fun i => (congrArg (val_main_v48 (F := Ideal) X) (eq_ix3 i)).trans (loc_at X (i 0) (i 1) (i 2))

/-- The reference's confidences are the kernel's. -/
theorem conf_eq : val_main_v52 (F := Ideal) X = confRes X :=
  funext fun i => (congrArg (val_main_v52 (F := Ideal) X) (eq_ix2 i)).trans (conf_at X (i 0) (i 1))

/-- The reference's class probabilities are the kernel's, of real outputs. -/
theorem cls_eq (r : Cert.KernelIdeal.S1024x6860.Idx → ℝ) (hr : ∀ i, X i = (r i : EReal)) : val_main_v51 (F := Ideal) X = clsRes X :=
  funext fun i => (congrArg (val_main_v51 (F := Ideal) X) (eq_ix3 i)).trans
    (cls_at X (i 0) (i 1) (i 2) (fun k => r (ix2 (i 0) k)) fun _ => hr _)

/-- Outputs of which the precondition holds are real numbers. -/
theorem finite_of_pre [Cert.Pre_finite_inputs.Facts] (h : Cert.Pre_finite_inputs.fn (F := Ideal) X = fun _ => 1#1) :
    ∃ r : Cert.KernelIdeal.S1024x6860.Idx → ℝ, ∀ i, X i = (r i : EReal) := by
  have key : ∀ i, ∃ v : ℝ, X i = (v : EReal) := fun i => by
    have h1 := congrFun h i
    pointwise [Cert.Pre_finite_inputs.fn] at h1
    rw [word_top] at h1
    by_cases hlt : (FloatOps.absf (X i) : EReal) < ⊤
    · exact real_of_abs_lt _ hlt
    · rw [decide_eq_false hlt] at h1
      exact absurd h1 (by decide)
  exact ⟨fun i => (key i).choose, fun i => (key i).choose_spec⟩

end Cert.Compare

end
-- ==== Proof.lean ====
/- The certificate's claims, joined: the frames of the kernel, of its idealization and of the reference; that the
   idealization changes the kernel only by the named constant; and that from finite arguments the idealized kernel and
   the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Compare
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference declares no semaphore. -/
theorem reference_no_semaphore (sm : SemLoc Cert.ReferenceIdeal.sig) : False := by
  revert sm
  decide

/-- The reference runs, leaves its argument unchanged and ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun _ h => ⟨fun c => (h c).2.2.2, funext fun s => (reference_no_semaphore s.2).elim⟩)
    (Cert.ReferenceIdeal.At.run m g)

/-- The reciprocal of the grid's side stands for the printed constant at every place it is read. -/
theorem preserves : Cert.preserves_Kernel_KernelIdeal :=
  IdealRules.named_const.statement Cert.KernelIdeal.κ "inv_side" .f32 0x3D924925#32 ((1 / 14 : ℝ) : EReal) rfl

/-- From equal finite arguments the kernel and the reference end with equal coordinates, class probabilities and
    confidences, as exact numbers, and leave their argument unchanged. -/
theorem algebraic : Cert.algebraic_KernelIdeal_ReferenceIdeal_pre_finite_inputs := by
  pair_intro
  · run_from Cert.KernelIdeal.Run.run m g fun c => Cert.Compare.finite_of_pre _ (hpre c)
  · run_from Cert.ReferenceIdeal.At.run m' g'
    · exact Cert.Compare.loc_eq _
    · exact (Cert.Compare.finite_of_pre _ (hpre c)).elim fun r hr => Cert.Compare.cls_eq _ r hr
    · exact Cert.Compare.conf_eq _

/-- Everything the certificate claims. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    preserves,
    algebraic⟩

end Cert.Proof

end
